-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v6_4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x16x512 : Shape := ⟨3, ![512, 16, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S8192x512 : Shape := ⟨2, ![8192, 512]⟩
abbrev S512x1536 : Shape := ⟨2, ![512, 1536]⟩
abbrev S1x1536 : Shape := ⟨2, ![1, 1536]⟩
abbrev S1x512 : Shape := ⟨2, ![1, 512]⟩
abbrev S16x512 : Shape := ⟨2, ![16, 512]⟩
abbrev S16x1536 : Shape := ⟨2, ![16, 1536]⟩

abbrev nBuf : Space → Nat
  | .hbm => 20
  | .vmem => 14
  | .smem => 0
  | _ => 0

abbrev bufTy : (tb : Table) → Fin (tcTables nBuf tb) → BufTy
  | .hbm, ⟨0, _⟩ => ⟨S512x16x512, .f32⟩
  | .hbm, ⟨1, _⟩ => ⟨S1536x512, .f32⟩
  | .hbm, ⟨2, _⟩ => ⟨S1536x512, .f32⟩
  | .hbm, ⟨3, _⟩ => ⟨S1536, .f32⟩
  | .hbm, ⟨4, _⟩ => ⟨S1536, .f32⟩
  | .hbm, ⟨5, _⟩ => ⟨S512x512, .f32⟩
  | .hbm, ⟨6, _⟩ => ⟨S512, .f32⟩
  | .hbm, ⟨7, _⟩ => ⟨S8192x512, .f32⟩
  | .hbm, ⟨8, _⟩ => ⟨S8192x512, .bf16⟩
  | .hbm, ⟨9, _⟩ => ⟨S512x1536, .f32⟩
  | .hbm, ⟨10, _⟩ => ⟨S512x1536, .bf16⟩
  | .hbm, ⟨11, _⟩ => ⟨S512x1536, .f32⟩
  | .hbm, ⟨12, _⟩ => ⟨S512x1536, .bf16⟩
  | .hbm, ⟨13, _⟩ => ⟨S512x512, .f32⟩
  | .hbm, ⟨14, _⟩ => ⟨S512x512, .bf16⟩
  | .hbm, ⟨15, _⟩ => ⟨S1x1536, .f32⟩
  | .hbm, ⟨16, _⟩ => ⟨S1x1536, .f32⟩
  | .hbm, ⟨17, _⟩ => ⟨S1x512, .f32⟩
  | .hbm, ⟨18, _⟩ => ⟨S8192x512, .f32⟩
  | .hbm, ⟨19, _⟩ => ⟨S16x512, .f32⟩
  | .local _ .vmem, ⟨0, _⟩ => ⟨S512x512, .bf16⟩
  | .local _ .vmem, ⟨1, _⟩ => ⟨S512x512, .bf16⟩
  | .local _ .vmem, ⟨2, _⟩ => ⟨S512x1536, .bf16⟩
  | .local _ .vmem, ⟨3, _⟩ => ⟨S512x1536, .bf16⟩
  | .local _ .vmem, ⟨4, _⟩ => ⟨S512x512, .bf16⟩
  | .local _ .vmem, ⟨5, _⟩ => ⟨S1x1536, .f32⟩
  | .local _ .vmem, ⟨6, _⟩ => ⟨S1x1536, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S16x512, .f32⟩
  | .local _ .vmem, ⟨11, _⟩ => ⟨S16x512, .f32⟩
  | .local _ .vmem, ⟨12, _⟩ => ⟨S512x1536, .f32⟩
  | .local _ .vmem, ⟨13, _⟩ => ⟨S512x512, .bf16⟩
  | _, _ => ⟨S512x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S512x16x512 : Shape := ⟨3, ![512, 16, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S512x16x1536 : Shape := ⟨3, ![512, 16, 1536]⟩
abbrev S1x1x1536 : Shape := ⟨3, ![1, 1, 1536]⟩
abbrev S_ : Shape := ⟨0, ![]⟩
abbrev S16x512 : Shape := ⟨2, ![16, 512]⟩
abbrev S1x16x1536 : Shape := ⟨3, ![1, 16, 1536]⟩
abbrev S16x1536 : Shape := ⟨2, ![16, 1536]⟩
abbrev S512x1536 : Shape := ⟨2, ![512, 1536]⟩
abbrev S1x1536 : Shape := ⟨2, ![1, 1536]⟩
abbrev S1x16x512 : Shape := ⟨3, ![1, 16, 512]⟩
abbrev S1x1x512 : Shape := ⟨3, ![1, 1, 512]⟩
abbrev S8192x512 : Shape := ⟨2, ![8192, 512]⟩

abbrev nBuf : Space → Nat
  | .hbm => 78
  | .vmem => 0
  | .smem => 0
  | _ => 0

abbrev bufTy : (tb : Table) → Fin (tcTables nBuf tb) → BufTy
  | .hbm, ⟨0, _⟩ => ⟨S512x16x512, .f32⟩
  | .hbm, ⟨1, _⟩ => ⟨S1536x512, .f32⟩
  | .hbm, ⟨2, _⟩ => ⟨S1536x512, .f32⟩
  | .hbm, ⟨3, _⟩ => ⟨S1536, .f32⟩
  | .hbm, ⟨4, _⟩ => ⟨S1536, .f32⟩
  | .hbm, ⟨5, _⟩ => ⟨S512x512, .f32⟩
  | .hbm, ⟨6, _⟩ => ⟨S512, .f32⟩
  | .hbm, ⟨7, _⟩ => ⟨S512x16x1536, .f32⟩
  | .hbm, ⟨8, _⟩ => ⟨S1x1x1536, .f32⟩
  | .hbm, ⟨9, _⟩ => ⟨S512x16x1536, .f32⟩
  | .hbm, ⟨10, _⟩ => ⟨S512x16x1536, .f32⟩
  | .hbm, ⟨11, _⟩ => ⟨S_, .f32⟩
  | .hbm, ⟨12, _⟩ => ⟨S16x512, .f32⟩
  | .hbm, ⟨13, _⟩ => ⟨S_, .f32⟩
  | .hbm, ⟨14, _⟩ => ⟨S512x16x512, .f32⟩
  | .hbm, ⟨15, _⟩ => ⟨S_, .i32⟩
  | .hbm, ⟨16, _⟩ => ⟨S512x16x1536, .f32⟩
  | .hbm, ⟨17, _⟩ => ⟨S1536x512, .f32⟩
  | .hbm, ⟨18, _⟩ => ⟨S1536, .f32⟩
  | .hbm, ⟨19, _⟩ => ⟨S_, .i32⟩
  | .hbm, ⟨20, _⟩ => ⟨S16x512, .f32⟩
  | .hbm, ⟨21, _⟩ => ⟨S512x16x512, .f32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S1x16x1536, .f32⟩
  | .hbm, ⟨27, _⟩ => ⟨S16x1536, .f32⟩
  | .hbm, ⟨28, _⟩ => ⟨S512x1536, .f32⟩
  | .hbm, ⟨29, _⟩ => ⟨S16x1536, .f32⟩
  | .hbm, ⟨30, _⟩ => ⟨S1x1536, .f32⟩
  | .hbm, ⟨31, _⟩ => ⟨S16x1536, .f32⟩
  | .hbm, ⟨32, _⟩ => ⟨S16x1536, .f32⟩
  | .hbm, ⟨33, _⟩ => ⟨S16x512, .f32⟩
  | .hbm, ⟨34, _⟩ => ⟨S16x512, .f32⟩
  | .hbm, ⟨35, _⟩ => ⟨S16x512, .f32⟩
  | .hbm, ⟨36, _⟩ => ⟨S16x512, .f32⟩
  | .hbm, ⟨37, _⟩ => ⟨S16x512, .f32⟩
  | .hbm, ⟨38, _⟩ => ⟨S16x512, .f32⟩
  | .hbm, ⟨39, _⟩ => ⟨S16x512, .f32⟩
  | .hbm, ⟨40, _⟩ => ⟨S16x512, .f32⟩
  | .hbm, ⟨41, _⟩ => ⟨S16x512, .f32⟩
  | .hbm, ⟨42, _⟩ => ⟨S_, .f32⟩
  | .hbm, ⟨43, _⟩ => ⟨S16x512, .f32⟩
  | .hbm, ⟨44, _⟩ => ⟨S16x512, .f32⟩
  | .hbm, ⟨45, _⟩ => ⟨S_, .f32⟩
  | .hbm, ⟨46, _⟩ => ⟨S16x512, .f32⟩
  | .hbm, ⟨47, _⟩ => ⟨S16x512, .f32⟩
  | .hbm, ⟨48, _⟩ => ⟨S16x512, .f32⟩
  | .hbm, ⟨49, _⟩ => ⟨S16x512, .f32⟩
  | .hbm, ⟨50, _⟩ => ⟨S16x512, .f32⟩
  | .hbm, ⟨51, _⟩ => ⟨S_, .f32⟩
  | .hbm, ⟨52, _⟩ => ⟨S16x512, .f32⟩
  | .hbm, ⟨53, _⟩ => ⟨S16x512, .f32⟩
  | .hbm, ⟨54, _⟩ => ⟨S_, .f32⟩
  | .hbm, ⟨55, _⟩ => ⟨S16x512, .f32⟩
  | .hbm, ⟨56, _⟩ => ⟨S16x512, .f32⟩
  | .hbm, ⟨57, _⟩ => ⟨S16x512, .f32⟩
  | .hbm, ⟨58, _⟩ => ⟨S16x512, .f32⟩
  | .hbm, ⟨59, _⟩ => ⟨S16x512, .f32⟩
  | .hbm, ⟨60, _⟩ => ⟨S_, .f32⟩
  | .hbm, ⟨61, _⟩ => ⟨S16x512, .f32⟩
  | .hbm, ⟨62, _⟩ => ⟨S16x512, .f32⟩
  | .hbm, ⟨63, _⟩ => ⟨S16x512, .f32⟩
  | .hbm, ⟨64, _⟩ => ⟨S16x512, .f32⟩
  | .hbm, ⟨65, _⟩ => ⟨S16x512, .f32⟩
  | .hbm, ⟨66, _⟩ => ⟨S1x16x512, .f32⟩
  | .hbm, ⟨67, _⟩ => ⟨S_, .i32⟩
  | .hbm, ⟨68, _⟩ => ⟨S_, .i32⟩
  | .hbm, ⟨69, _⟩ => ⟨S512x16x512, .f32⟩
  | .hbm, ⟨70, _⟩ => ⟨S_, .i32⟩
  | .hbm, ⟨71, _⟩ => ⟨S_, .i32⟩
  | .hbm, ⟨72, _⟩ => ⟨S512x512, .f32⟩
  | .hbm, ⟨73, _⟩ => ⟨S512x16x512, .f32⟩
  | .hbm, ⟨74, _⟩ => ⟨S1x1x512, .f32⟩
  | .hbm, ⟨75, _⟩ => ⟨S512x16x512, .f32⟩
  | .hbm, ⟨76, _⟩ => ⟨S512x16x512, .f32⟩
  | .hbm, ⟨77, _⟩ => ⟨S8192x512, .f32⟩
  | _, _ => ⟨S512x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_c : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev main_while0c_c_6 : Ref sig .tc := ⟨.hbm, 22, rfl⟩
abbrev main_while0c_v13 : Ref sig .tc := ⟨.hbm, 23, rfl⟩
abbrev main_while0b_call0_c : Ref sig .tc := ⟨.hbm, 24, rfl⟩
abbrev main_while0b_call0_c_0 : Ref sig .tc := ⟨.hbm, 25, rfl⟩
abbrev main_while0b_call0_v0 : Ref sig .tc := ⟨.hbm, 26, rfl⟩
abbrev main_while0b_v13 : Ref sig .tc := ⟨.hbm, 27, rfl⟩
abbrev main_while0b_v14 : Ref sig .tc := ⟨.hbm, 28, rfl⟩
abbrev main_while0b_v15 : Ref sig .tc := ⟨.hbm, 29, rfl⟩
abbrev main_while0b_v16 : Ref sig .tc := ⟨.hbm, 30, rfl⟩
abbrev main_while0b_v17 : Ref sig .tc := ⟨.hbm, 31, rfl⟩
abbrev main_while0b_v18 : Ref sig .tc := ⟨.hbm, 32, rfl⟩
abbrev main_while0b_v19 : Ref sig .tc := ⟨.hbm, 33, rfl⟩
abbrev main_while0b_v20 : Ref sig .tc := ⟨.hbm, 34, rfl⟩
abbrev main_while0b_v21 : Ref sig .tc := ⟨.hbm, 35, rfl⟩
abbrev main_while0b_v22 : Ref sig .tc := ⟨.hbm, 36, rfl⟩
abbrev main_while0b_v23 : Ref sig .tc := ⟨.hbm, 37, rfl⟩
abbrev main_while0b_v24 : Ref sig .tc := ⟨.hbm, 38, rfl⟩
abbrev main_while0b_v25 : Ref sig .tc := ⟨.hbm, 39, rfl⟩
abbrev main_while0b_v26 : Ref sig .tc := ⟨.hbm, 40, rfl⟩
abbrev main_while0b_v27 : Ref sig .tc := ⟨.hbm, 41, rfl⟩
abbrev main_while0b_cst_6 : Ref sig .tc := ⟨.hbm, 42, rfl⟩
abbrev main_while0b_v28 : Ref sig .tc := ⟨.hbm, 43, rfl⟩
abbrev main_while0b_v29 : Ref sig .tc := ⟨.hbm, 44, rfl⟩
abbrev main_while0b_cst_7 : Ref sig .tc := ⟨.hbm, 45, rfl⟩
abbrev main_while0b_v30 : Ref sig .tc := ⟨.hbm, 46, rfl⟩
abbrev main_while0b_v31 : Ref sig .tc := ⟨.hbm, 47, rfl⟩
abbrev main_while0b_v32 : Ref sig .tc := ⟨.hbm, 48, rfl⟩
abbrev main_while0b_v33 : Ref sig .tc := ⟨.hbm, 49, rfl⟩
abbrev main_while0b_v34 : Ref sig .tc := ⟨.hbm, 50, rfl⟩
abbrev main_while0b_cst_8 : Ref sig .tc := ⟨.hbm, 51, rfl⟩
abbrev main_while0b_v35 : Ref sig .tc := ⟨.hbm, 52, rfl⟩
abbrev main_while0b_v36 : Ref sig .tc := ⟨.hbm, 53, rfl⟩
abbrev main_while0b_cst_9 : Ref sig .tc := ⟨.hbm, 54, rfl⟩
abbrev main_while0b_v37 : Ref sig .tc := ⟨.hbm, 55, rfl⟩
abbrev main_while0b_v38 : Ref sig .tc := ⟨.hbm, 56, rfl⟩
abbrev main_while0b_v39 : Ref sig .tc := ⟨.hbm, 57, rfl⟩
abbrev main_while0b_v40 : Ref sig .tc := ⟨.hbm, 58, rfl⟩
abbrev main_while0b_v41 : Ref sig .tc := ⟨.hbm, 59, rfl⟩
abbrev main_while0b_cst_10 : Ref sig .tc := ⟨.hbm, 60, rfl⟩
abbrev main_while0b_v42 : Ref sig .tc := ⟨.hbm, 61, rfl⟩
abbrev main_while0b_v43 : Ref sig .tc := ⟨.hbm, 62, rfl⟩
abbrev main_while0b_v44 : Ref sig .tc := ⟨.hbm, 63, rfl⟩
abbrev main_while0b_v45 : Ref sig .tc := ⟨.hbm, 64, rfl⟩
abbrev main_while0b_v46 : Ref sig .tc := ⟨.hbm, 65, rfl⟩
abbrev main_while0b_call1_v0 : Ref sig .tc := ⟨.hbm, 66, rfl⟩
abbrev main_while0b_call1_c : Ref sig .tc := ⟨.hbm, 67, rfl⟩
abbrev main_while0b_call1_c_0 : Ref sig .tc := ⟨.hbm, 68, rfl⟩
abbrev main_while0b_v47 : Ref sig .tc := ⟨.hbm, 69, rfl⟩
abbrev main_while0b_c_11 : Ref sig .tc := ⟨.hbm, 70, rfl⟩
abbrev main_while0b_v48 : Ref sig .tc := ⟨.hbm, 71, rfl⟩
abbrev main_v7 : Ref sig .tc := ⟨.hbm, 72, rfl⟩
abbrev main_v8 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩

abbrev nD : Nat := 1
abbrev τ : Topo := Topo.v7x

variable {F : FTy → Type} [FloatOps F]

abbrev main_while0_count : Scf.Loop 32 := ⟨0#32, 512#32, 1#32⟩
-- ==== Proof.Kern.Cell.lean ====
/- One step of the recurrence as the kernel computes it, and the sequence of hidden states that steps over the rows of an
   input projection leave. -/
module

public import proofs.«01_k».proof.Proof.Gen.KernelIdeal.Value
public import Idealize.ShloMosaic.Lib.Pointwise

@[expose] public section

noncomputable section

namespace Cert.KernelIdeal.Cell

open Cert.KernelIdeal Cert.KernelIdeal.Gen Idealize.ShloMosaic

variable {F : FTy → Type} [FloatOps F]

/-- The hidden state's projection, `h W + b`. -/
def gates (w : FVec F S512x1536 .bf16) (b : FVec F S1x1536 .f32) (h : FVec F S16x512 .f32) : FVec F S16x1536 .f32 :=
  addf (matmul dot_S16x512_S512x1536_S16x1536_1_0_0_1_n_n none (truncf .bf16 h bitsLt_bf16_f32) w
    (constant S16x1536 .f32 0x00000000#32)) (broadcastTo S16x1536 b broadcasts_S1x1536_S16x1536)

/-- The first third of a projection's columns: the reset gate's. -/
def part0 (v : FVec F S16x1536 .f32) : FVec F S16x512 .f32 :=
  extractStridedSlice S16x512 ![0, 0] v slices_S16x1536_o0_0_S16x512

/-- The second third of a projection's columns: the update gate's. -/
def part1 (v : FVec F S16x1536 .f32) : FVec F S16x512 .f32 :=
  extractStridedSlice S16x512 ![0, 512] v slices_S16x1536_o0_512_S16x512

/-- The last third of a projection's columns: the candidate's. -/
def part2 (v : FVec F S16x1536 .f32) : FVec F S16x512 .f32 :=
  extractStridedSlice S16x512 ![0, 1024] v slices_S16x1536_o0_1024_S16x512

/-- The candidate state, from the two projections. -/
def cand (xg gh : FVec F S16x1536 .f32) : FVec F S16x512 .f32 :=
  tanh (addf (part2 xg) (mulf (logistic (addf (part0 xg) (part0 gh))) (part2 gh)))

/-- The update gate, from the two projections. -/
def upd (xg gh : FVec F S16x1536 .f32) : FVec F S16x512 .f32 := logistic (addf (part1 xg) (part1 gh))

/-- The new state as the kernel writes it: `n + z (h - n)`. -/
def blend (n z h : FVec F S16x512 .f32) : FVec F S16x512 .f32 := addf n (mulf z (subf h n))

/-- One step of the recurrence. -/
def step (w : FVec F S512x1536 .bf16) (b : FVec F S1x1536 .f32) (xg : FVec F S16x1536 .f32) (h : FVec F S16x512 .f32) :
    FVec F S16x512 .f32 :=
  blend (cand xg (gates w b h)) (upd xg (gates w b h)) h

/-- The states that successive steps leave, from the state `h`; step `k` takes the projection `xs k`. -/
def states (w : FVec F S512x1536 .bf16) (b : FVec F S1x1536 .f32) (xs : ℕ → FVec F S16x1536 .f32) (h : FVec F S16x512 .f32) :
    ℕ → FVec F S16x512 .f32
  | 0 => h
  | k + 1 => step w b (xs k) (states w b xs h k)

end Cert.KernelIdeal.Cell
-- ==== Proof.Kern.Scratch.lean ====
/-
  The two scratch arrays of one grid point. One holds the block's input projection, written whole and read 16 rows at a
  time; the other collects the 32 carried states, written 16 rows at a time and read whole.
-/
module

public import proofs.«01_k».proof.Proof.Kern.Cell
public import Idealize.ShloMosaic.Lib.Pipeline.ValueKit.Basic
public import Idealize.ShloMosaic.Lib.Pipeline.Value

@[expose] public section

noncomputable section

namespace Cert.KernelIdeal.Cell

open Cert.KernelIdeal Cert.KernelIdeal.Gen Idealize.ShloMosaic Idealize.ShloMosaic.TcCoe

variable {F : FTy → Type} [FloatOps F]

/-- Step `k`'s 16 rows lie inside the projection's scratch. -/
theorem inb_rows (k : ℕ) : ∀ a, (![16 * (k % 32), 0] : Fin 2 → ℕ) a + S16x1536.size a ≤ S512x1536.size a := by
  intro a
  have hk := Nat.mod_lt k (show 0 < 32 by decide)
  fin_cases a
  · show 16 * (k % 32) + 16 ≤ 512; omega
  · show 0 + 1536 ≤ 1536; omega

/-- The tile of the step written `k`-th from the end lies inside the states' scratch. -/
theorem inb_tile (k : Fin 32) : ∀ a, (![16 * (31 - k.val), 0] : Fin 2 → ℕ) a + S16x512.size a ≤ S512x512.size a := by
  intro a
  have hk := k.isLt
  fin_cases a
  · show 16 * (31 - k.val) + 16 ≤ 512; omega
  · show 0 + 512 ≤ 512; omega

/-- Rows `16 k … 16 k + 15` of a block's input projection. -/
def xgRows (xg : FVec F S512x1536 .f32) (k : ℕ) : FVec F S16x1536 .f32 := fun j =>
  xg (ix2 (n0 := 512) (n1 := 1536) ⟨16 * (k % 32) + (j 0).val, by
    have hk := Nat.mod_lt k (show 0 < 32 by decide)
    have hj : (j 0).val < 16 := (j 0).isLt
    omega⟩ (j 1))

/-- Reading step `k`'s rows of the scratch that the projection was stored in whole. -/
theorem readCov_xgRows (v : View sig .tc .vmem S512x1536 .f32) (xg : FVec F S512x1536 .f32) (k : ℕ) :
    v.readCov [(⟨Rect.unit ![0, 0] S512x1536.size inb_S512x1536_S512x1536_0_0, xg⟩ : View.Piece (Elt F) S512x1536 .f32)]
        (Rect.unit (s := S512x1536) ![16 * (k % 32), 0] S16x1536.size (inb_rows k)).toLoadRect
      = xgRows xg k := by
  rw [View.readCov_eq_canon', View.canon_cons_unit_zero (by funext a; fin_cases a <;> rfl)]
  funext j
  unfold xgRows
  refine congrArg xg ?_
  funext a; apply Fin.ext
  fin_cases a
  · show 16 * (k % 32) + 1 * (j 0).val = 16 * (k % 32) + (j 0).val; omega
  · show 0 + 1 * (j 1).val = (j 1).val; omega

/-- The collected states: row `16 k + b` is row `b` of the state after step `k`. -/
def lat (hs : ℕ → FVec F S16x512 .f32) : FVec F S512x512 .bf16 := fun y =>
  truncf .bf16 (hs ((y 0).val / 16 + 1)) bitsLt_bf16_f32
    (ix2 (n0 := 16) (n1 := 512) ⟨(y 0).val % 16, Nat.mod_lt _ (by decide)⟩ (y 1))

/-- The 32 stores of the states, the last first. -/
def tiles (hs : ℕ → FVec F S16x512 .f32) : List (View.Piece (Elt F) S512x512 .bf16) :=
  List.ofFn fun k : Fin 32 => ⟨Rect.unit (s := S512x512) ![16 * (31 - k.val), 0] S16x512.size (inb_tile k),
    shapeCast S16x512 (truncf .bf16 (hs (31 - k.val + 1)) bitsLt_bf16_f32) shapeCasts_S16x512_S16x512⟩

/-- After the 32 stores the scratch holds the collected states. -/
theorem canon_tiles (hs : ℕ → FVec F S16x512 .f32) : View.canon (tiles hs) = lat hs := by
  funext y
  have hy : (y 0).val < 512 := (y 0).isLt
  refine View.canon_apply_of_pieces (Val := Elt F) (e := .bf16) (lat hs) _ ?_ y ?_
  · intro p hp x
    obtain ⟨k, rfl⟩ := List.mem_ofFn.mp hp
    have hk := k.isLt
    have hx : (x 0).val < 16 := (x 0).isLt
    refine (congrFun (shapeCast_self (truncf .bf16 (hs (31 - k.val + 1)) bitsLt_bf16_f32) shapeCasts_S16x512_S16x512) x).trans ?_
    unfold lat
    have h0 : (((Rect.unit (s := S512x512) ![16 * (31 - k.val), 0] S16x512.size (inb_tile k)).emb x) 0).val
        = 16 * (31 - k.val) + (x 0).val := by
      show 16 * (31 - k.val) + 1 * (x 0).val = _; omega
    have h1 : (((Rect.unit (s := S512x512) ![16 * (31 - k.val), 0] S16x512.size (inb_tile k)).emb x) 1).val = (x 1).val := by
      show 0 + 1 * (x 1).val = _; omega
    have hs' : (16 * (31 - k.val) + (x 0).val) / 16 + 1 = 31 - k.val + 1 := by omega
    rw [show (((Rect.unit (s := S512x512) ![16 * (31 - k.val), 0] S16x512.size (inb_tile k)).emb x) 0).val / 16 + 1
        = 31 - k.val + 1 by rw [h0]; exact hs']
    refine congrArg _ ?_
    funext a; apply Fin.ext
    fin_cases a
    · show (x 0).val = (((Rect.unit (s := S512x512) ![16 * (31 - k.val), 0] S16x512.size (inb_tile k)).emb x) 0).val % 16
      rw [h0]; omega
    · exact h1.symm
  · have hk : 31 - (y 0).val / 16 < 32 := by omega
    refine ⟨_, List.mem_ofFn.mpr ⟨⟨31 - (y 0).val / 16, hk⟩, rfl⟩,
      (Rect.mem_set_unit (inb := inb_tile ⟨31 - (y 0).val / 16, hk⟩)).mpr ?_⟩
    intro a
    have hy1 : (y 1).val < 512 := (y 1).isLt
    fin_cases a
    · show 16 * (31 - (31 - (y 0).val / 16)) ≤ (y 0).val ∧ (y 0).val < 16 * (31 - (31 - (y 0).val / 16)) + 16
      omega
    · show 0 ≤ (y 1).val ∧ (y 1).val < 0 + 512
      omega

/-- Reading the states' scratch whole after the 32 stores. -/
theorem readCov_tiles (v : View sig .tc .vmem S512x512 .bf16) (hs : ℕ → FVec F S16x512 .f32) :
    v.readCov (tiles hs) (Rect.unit (s := S512x512) ![0, 0] S512x512.size inb_S512x512_S512x512_0_0).toLoadRect = lat hs := by
  rw [View.readCov_eq_canon', canon_tiles]
  funext j
  refine congrArg (lat hs) ?_
  funext a; apply Fin.ext
  fin_cases a
  · show 0 + 1 * (j 0).val = (j 0).val; omega
  · show 0 + 1 * (j 1).val = (j 1).val; omega

end Cert.KernelIdeal.Cell

end
-- ==== Proof.Kern.Point.lean ====
/-
  What one grid point computes, as a function of its input blocks and of the state it starts from: the 32 states of its
  chain of steps, the last of them for the carried scratch and for the final state's block, and the projection of all 32
  for the output's block. The run's own names for the reads and values in between unfold to these.
-/
module

public import proofs.«01_k».proof.Proof.Kern.Scratch

@[expose] public section

set_option maxRecDepth 16384

noncomputable section

namespace Cert.KernelIdeal.Cell

open Cert.KernelIdeal Cert.KernelIdeal.Gen Idealize.ShloMosaic Idealize.ShloMosaic.TcCoe Idealize.SL.Sem

variable {F : FTy → Type} [FloatOps F]

/-- A load of a whole buffer reads the contents it was filled with. -/
theorem read_whole {s : Shape} {e : EltTy} {a : Memref sig .tc .vmem s e} (h : a.IsWhole) {off : Fin s.rank → ℕ}
    (inb : ∀ x, off x + s.size x ≤ s.size x) (x : Vec F s e) :
    View.readAt (Elt F) a.view (Rect.unit off s.size inb).toLoadRect (h.unread x) = x := by
  have hoff : off = fun _ => 0 := funext fun x => by have := inb x; omega
  rw [View.readAt_eq_ld, h.read_unread, View.ld_unit_zero hoff]

/-- The state after `k` of the point's steps, from the blocks of the input, of the two weights and of the two biases, and
    from the state before. -/
def pointStates (x0 : Vec F S512x512 .bf16) (x1 x2 : Vec F S512x1536 .bf16) (x4 x5 : Vec F S1x1536 .f32)
    (h : FVec F S16x512 .f32) : ℕ → FVec F S16x512 .f32 :=
  states (k0_pay7 x2) (k0_pay8 x5) (xgRows (k0_pay6 x0 x1 x4)) h

section CaseA

variable (c : Dev nD) (i : grid0.Coords)
  (a1 : Memref sig .tc .vmem S512x512 .bf16) (h1 : a1.IsWhole) (a2 : Memref sig .tc .vmem S512x1536 .bf16) (h2 : a2.IsWhole)
  (a3 : Memref sig .tc .vmem S512x1536 .bf16) (h3 : a3.IsWhole) (a4 : Memref sig .tc .vmem S512x512 .bf16) (h4 : a4.IsWhole)
  (a5 : Memref sig .tc .vmem S1x1536 .f32) (h5 : a5.IsWhole) (a6 : Memref sig .tc .vmem S1x1536 .f32) (h6 : a6.IsWhole)
  (a7 : Memref sig .tc .vmem S1x512 .f32) (h7 : a7.IsWhole) (a8 : Memref sig .tc .vmem S512x512 .f32) (h8 : a8.IsWhole)
  (a9 : Memref sig .tc .vmem S16x512 .f32) (h9 : a9.IsWhole) (a10 : Memref sig .tc .vmem S16x512 .f32) (h10 : a10.IsWhole)
  (a11 : Memref sig .tc .vmem S512x1536 .f32) (h11 : a11.IsWhole) (a12 : Memref sig .tc .vmem S512x512 .bf16) (h12 : a12.IsWhole)
  (x0 : Vec F S512x512 .bf16) (x1 x2 : Vec F S512x1536 .bf16) (x3 : Vec F S512x512 .bf16)
  (x4 x5 : Vec F S1x1536 .f32) (x6 : Vec F S1x512 .f32)

/-- The state that the chain starts from, at the first point, from the zeroed scratch. -/
theorem start_A : (kernelRun0_A.sl.v15 c a10 : Vec F S16x512 .f32) = k0_pay5 := by
  unfold kernelRun0_A.sl.v15 kernelRun0_A.sl.HS0_1
  exact View.readCov_unit_zero _ (by funext a; fin_cases a <;> rfl) _ _

/-- The input projection's rows, as step `k` reads them. -/
theorem rows_A (k : ℕ) : a11.view.readCov (kernelRun0_A.sl.HS1_1 c a1 h1 a2 h2 a5 h5 x0 x1 x4)
    (Rect.unit (s := S512x1536) ![16 * (k % 32), 0] S16x1536.size (inb_rows k)).toLoadRect = xgRows (k0_pay6 x0 x1 x4) k := by
  unfold kernelRun0_A.sl.HS1_1
  rw [readCov_xgRows, read_whole h1, read_whole h2, read_whole h5]

/-- The states of the point's 32 steps, in the names that the run gives its reads. -/
theorem runStates_A :
    states (kernelRun0_A.sl.r c a3 h3 x2) (kernelRun0_A.sl.r_1 c a6 h6 x5) (fun k => a11.view.readCov (kernelRun0_A.sl.HS1_1 c a1 h1 a2 h2 a5 h5 x0 x1 x4)
        (Rect.unit (s := S512x1536) ![16 * (k % 32), 0] S16x1536.size (inb_rows k)).toLoadRect)
      (kernelRun0_A.sl.v15 c a10) = pointStates x0 x1 x2 x4 x5 k0_pay5 := by
  unfold pointStates
  rw [start_A]
  refine (congrArg (fun xs => states _ _ xs _) (funext fun k => rows_A (k := k) ..)).trans ?_
  unfold kernelRun0_A.sl.r kernelRun0_A.sl.r_1
  rw [read_whole h3, read_whole h6]

/-- The last state is the 32nd of the chain. -/
theorem last_A :
    k0_pay1 (kernelRun0_A.sl.r_46 c a1 h1 a2 h2 a3 h3 a5 h5 a6 h6 a10 a11 x0 x1 x2 x4 x5)
        (kernelRun0_A.sl.r_47 c a1 h1 a2 h2 a3 h3 a5 h5 a6 h6 a10 a11 x0 x1 x2 x4 x5)
        (kernelRun0_A.sl.r_48 c a1 h1 a2 h2 a5 h5 a11 x0 x1 x4)
        (kernelRun0_A.sl.r_49 c a1 h1 a2 h2 a3 h3 a5 h5 a6 h6 a10 a11 x0 x1 x2 x4 x5)
      = pointStates x0 x1 x2 x4 x5 k0_pay5 32 := by
  rw [← runStates_A c a1 h1 a2 h2 a3 h3 a5 h5 a6 h6 a10 a11 x0 x1 x2 x4 x5]
  rfl

/-- The stores of the states' scratch are the 32 tiles of the chain. -/
theorem tiles_A : kernelRun0_A.sl.HS2_32 c a1 h1 a2 h2 a3 h3 a5 h5 a6 h6 a10 a11 x0 x1 x2 x4 x5 = tiles (pointStates x0 x1 x2 x4 x5 k0_pay5) := by
  rw [← runStates_A c a1 h1 a2 h2 a3 h3 a5 h5 a6 h6 a10 a11 x0 x1 x2 x4 x5]
  rfl

/-- What the point leaves in the carried scratch. -/
theorem sout_A (hc : cond0_0 i) : sout0_A_0 c i a1 h1 a2 h2 a3 h3 a4 h4 a5 h5 a6 h6 a7 h7 a8 h8 a9 h9 a10 h10 a11 h11 a12 h12 hc x0 x1 x2 x3 x4 x5 x6 = pointStates x0 x1 x2 x4 x5 k0_pay5 32 := by
  unfold sout0_A_0
  rw [View.read_writes_eq_canon _ _ _ (scover0_A_0 c i a1 h1 a2 h2 a3 h3 a4 h4 a5 h5 a6 h6 a7 h7 a8 h8 a9 h9 a10 h10 a11 h11 a12 h12 hc x0 x1 x2 x3 x4 x5 x6)]
  unfold kernelRun0_A
  dsimp only
  rw [View.canon_cons_unit_zero (by funext a; fin_cases a <;> rfl)]
  unfold k0_pay3
  rw [last_A, shapeCast_self]

/-- What the point leaves in the block of the final state. -/
theorem out8_A (hc : cond0_0 i) : out0_A_8 c i a1 h1 a2 h2 a3 h3 a4 h4 a5 h5 a6 h6 a7 h7 a8 h8 a9 h9 a10 h10 a11 h11 a12 h12 hc x0 x1 x2 x3 x4 x5 x6 = pointStates x0 x1 x2 x4 x5 k0_pay5 32 := by
  unfold out0_A_8
  rw [View.read_writes_eq_canon _ _ _ (cover0_A_8 c i a1 h1 a2 h2 a3 h3 a4 h4 a5 h5 a6 h6 a7 h7 a8 h8 a9 h9 a10 h10 a11 h11 a12 h12 hc x0 x1 x2 x3 x4 x5 x6)]
  unfold kernelRun0_A
  dsimp only
  rw [View.canon_cons_unit_zero (by funext a; fin_cases a <;> rfl)]
  exact last_A ..

/-- What the point leaves in its block of the output. -/
theorem out7_A (hc : cond0_0 i) : out0_A_7 c i a1 h1 a2 h2 a3 h3 a4 h4 a5 h5 a6 h6 a7 h7 a8 h8 a9 h9 a10 h10 a11 h11 a12 h12 hc x0 x1 x2 x3 x4 x5 x6
    = k0_pay4 (lat (pointStates x0 x1 x2 x4 x5 k0_pay5)) x3 x6 := by
  unfold out0_A_7
  rw [View.read_writes_eq_canon _ _ _ (cover0_A_7 c i a1 h1 a2 h2 a3 h3 a4 h4 a5 h5 a6 h6 a7 h7 a8 h8 a9 h9 a10 h10 a11 h11 a12 h12 hc x0 x1 x2 x3 x4 x5 x6)]
  unfold kernelRun0_A
  dsimp only
  rw [View.canon_cons_unit_zero (by funext a; fin_cases a <;> rfl), read_whole h4, read_whole h7]
  unfold kernelRun0_A.sl.v824
  rw [tiles_A]
  exact congrArg (fun l => k0_pay4 l x3 x6) (readCov_tiles _ _)

end CaseA

section CaseB

variable (c : Dev nD) (i : grid0.Coords)
  (a1 : Memref sig .tc .vmem S512x512 .bf16) (h1 : a1.IsWhole) (a2 : Memref sig .tc .vmem S512x1536 .bf16) (h2 : a2.IsWhole)
  (a3 : Memref sig .tc .vmem S512x1536 .bf16) (h3 : a3.IsWhole) (a4 : Memref sig .tc .vmem S512x512 .bf16) (h4 : a4.IsWhole)
  (a5 : Memref sig .tc .vmem S1x1536 .f32) (h5 : a5.IsWhole) (a6 : Memref sig .tc .vmem S1x1536 .f32) (h6 : a6.IsWhole)
  (a7 : Memref sig .tc .vmem S1x512 .f32) (h7 : a7.IsWhole) (a8 : Memref sig .tc .vmem S512x512 .f32) (h8 : a8.IsWhole)
  (a9 : Memref sig .tc .vmem S16x512 .f32) (h9 : a9.IsWhole) (a10 : Memref sig .tc .vmem S16x512 .f32) (h10 : a10.IsWhole)
  (a11 : Memref sig .tc .vmem S512x1536 .f32) (h11 : a11.IsWhole) (a12 : Memref sig .tc .vmem S512x512 .bf16) (h12 : a12.IsWhole)
  (x0 : Vec F S512x512 .bf16) (x1 x2 : Vec F S512x1536 .bf16) (x3 : Vec F S512x512 .bf16)
  (x4 x5 : Vec F S1x1536 .f32) (x6 : Vec F S1x512 .f32) (xs0 : Vec F S16x512 .f32)

/-- The state that the chain starts from, at a later point, from the carried scratch. -/
theorem start_B : (kernelRun0_B.sl.r c a10 h10 xs0 : Vec F S16x512 .f32) = xs0 := by
  unfold kernelRun0_B.sl.r
  rw [View.readAt_eq_ld, h10.read_unread, View.ld_unit_zero (by funext a; fin_cases a <;> rfl)]

/-- The input projection's rows, as step `k` reads them. -/
theorem rows_B (k : ℕ) : a11.view.readCov (kernelRun0_B.sl.HS1_1 c a1 h1 a2 h2 a5 h5 x0 x1 x4)
    (Rect.unit (s := S512x1536) ![16 * (k % 32), 0] S16x1536.size (inb_rows k)).toLoadRect = xgRows (k0_pay6 x0 x1 x4) k := by
  unfold kernelRun0_B.sl.HS1_1
  rw [readCov_xgRows, read_whole h1, read_whole h2, read_whole h5]

/-- The states of the point's 32 steps, in the names that the run gives its reads. -/
theorem runStates_B :
    states (kernelRun0_B.sl.r_1 c a3 h3 x2) (kernelRun0_B.sl.r_2 c a6 h6 x5) (fun k => a11.view.readCov (kernelRun0_B.sl.HS1_1 c a1 h1 a2 h2 a5 h5 x0 x1 x4)
        (Rect.unit (s := S512x1536) ![16 * (k % 32), 0] S16x1536.size (inb_rows k)).toLoadRect)
      (kernelRun0_B.sl.r c a10 h10 xs0) = pointStates x0 x1 x2 x4 x5 xs0 := by
  unfold pointStates
  rw [start_B]
  refine (congrArg (fun xs => states _ _ xs _) (funext fun k => rows_B (k := k) ..)).trans ?_
  unfold kernelRun0_B.sl.r_1 kernelRun0_B.sl.r_2
  rw [read_whole h3, read_whole h6]

/-- The last state is the 32nd of the chain. -/
theorem last_B :
    k0_pay1 (kernelRun0_B.sl.r_47 c a1 h1 a2 h2 a3 h3 a5 h5 a6 h6 a10 h10 a11 x0 x1 x2 x4 x5 xs0)
        (kernelRun0_B.sl.r_48 c a1 h1 a2 h2 a3 h3 a5 h5 a6 h6 a10 h10 a11 x0 x1 x2 x4 x5 xs0)
        (kernelRun0_B.sl.r_49 c a1 h1 a2 h2 a5 h5 a11 x0 x1 x4)
        (kernelRun0_B.sl.r_50 c a1 h1 a2 h2 a3 h3 a5 h5 a6 h6 a10 h10 a11 x0 x1 x2 x4 x5 xs0)
      = pointStates x0 x1 x2 x4 x5 xs0 32 := by
  rw [← runStates_B c a1 h1 a2 h2 a3 h3 a5 h5 a6 h6 a10 h10 a11 x0 x1 x2 x4 x5 xs0]
  rfl

/-- The stores of the states' scratch are the 32 tiles of the chain. -/
theorem tiles_B : kernelRun0_B.sl.HS2_32 c a1 h1 a2 h2 a3 h3 a5 h5 a6 h6 a10 h10 a11 x0 x1 x2 x4 x5 xs0 = tiles (pointStates x0 x1 x2 x4 x5 xs0) := by
  rw [← runStates_B c a1 h1 a2 h2 a3 h3 a5 h5 a6 h6 a10 h10 a11 x0 x1 x2 x4 x5 xs0]
  rfl

/-- What the point leaves in the carried scratch. -/
theorem sout_B (hc : ¬cond0_0 i) : sout0_B_0 c i a1 h1 a2 h2 a3 h3 a4 h4 a5 h5 a6 h6 a7 h7 a8 h8 a9 h9 a10 h10 a11 h11 a12 h12 hc x0 x1 x2 x3 x4 x5 x6 xs0 = pointStates x0 x1 x2 x4 x5 xs0 32 := by
  unfold sout0_B_0
  rw [View.read_writes_eq_canon _ _ _ (scover0_B_0 c i a1 h1 a2 h2 a3 h3 a4 h4 a5 h5 a6 h6 a7 h7 a8 h8 a9 h9 a10 h10 a11 h11 a12 h12 hc x0 x1 x2 x3 x4 x5 x6 xs0)]
  unfold kernelRun0_B
  dsimp only
  rw [View.canon_cons_unit_zero (by funext a; fin_cases a <;> rfl)]
  unfold k0_pay3
  rw [last_B, shapeCast_self]

/-- What the point leaves in the block of the final state. -/
theorem out8_B (hc : ¬cond0_0 i) : out0_B_8 c i a1 h1 a2 h2 a3 h3 a4 h4 a5 h5 a6 h6 a7 h7 a8 h8 a9 h9 a10 h10 a11 h11 a12 h12 hc x0 x1 x2 x3 x4 x5 x6 xs0 = pointStates x0 x1 x2 x4 x5 xs0 32 := by
  unfold out0_B_8
  rw [View.read_writes_eq_canon _ _ _ (cover0_B_8 c i a1 h1 a2 h2 a3 h3 a4 h4 a5 h5 a6 h6 a7 h7 a8 h8 a9 h9 a10 h10 a11 h11 a12 h12 hc x0 x1 x2 x3 x4 x5 x6 xs0)]
  unfold kernelRun0_B
  dsimp only
  rw [View.canon_cons_unit_zero (by funext a; fin_cases a <;> rfl)]
  exact last_B ..

/-- What the point leaves in its block of the output. -/
theorem out7_B (hc : ¬cond0_0 i) : out0_B_7 c i a1 h1 a2 h2 a3 h3 a4 h4 a5 h5 a6 h6 a7 h7 a8 h8 a9 h9 a10 h10 a11 h11 a12 h12 hc x0 x1 x2 x3 x4 x5 x6 xs0
    = k0_pay4 (lat (pointStates x0 x1 x2 x4 x5 xs0)) x3 x6 := by
  unfold out0_B_7
  rw [View.read_writes_eq_canon _ _ _ (cover0_B_7 c i a1 h1 a2 h2 a3 h3 a4 h4 a5 h5 a6 h6 a7 h7 a8 h8 a9 h9 a10 h10 a11 h11 a12 h12 hc x0 x1 x2 x3 x4 x5 x6 xs0)]
  unfold kernelRun0_B
  dsimp only
  rw [View.canon_cons_unit_zero (by funext a; fin_cases a <;> rfl), read_whole h4, read_whole h7]
  unfold kernelRun0_B.sl.v824
  rw [tiles_B]
  exact congrArg (fun l => k0_pay4 l x3 x6) (readCov_tiles _ _)

end CaseB

end Cert.KernelIdeal.Cell

end
-- ==== Proof.Gru.lean ====
/-
  The recurrence over the extended reals, free of either program: the projections, one step, the states from zero, the
  output's rows. A step can be written as `n + z (h - n)`, as the kernel writes it, or as `(1 - z) n + z h`, as the
  reference does. The two agree where `n`, `z` and `h` are real numbers, and along the recurrence they always are: `n` is
  a hyperbolic tangent, `z` a logistic, and `h` starts at zero.
-/
module

public import Idealize.ShloMosaic.PureOps.Ideal

@[expose] public section

noncomputable section

namespace Cert.Gru

open Idealize.ShloMosaic

/-- Column `j` of the first third of a projection. -/
abbrev col0 (j : Fin 512) : Fin 1536 := ⟨j.val, by omega⟩
/-- Column `j` of the second third. -/
abbrev col1 (j : Fin 512) : Fin 1536 := ⟨512 + j.val, by omega⟩
/-- Column `j` of the last third. -/
abbrev col2 (j : Fin 512) : Fin 1536 := ⟨1024 + j.val, by omega⟩

/-- The batch row of a row of an array that holds 16 batch rows per time. -/
def batch (r : ℕ) : Fin 16 := ⟨r % 16, Nat.mod_lt _ (by decide)⟩

/-- One column of a vector's projection by a weight and a bias. -/
def proj {n : ℕ} (w : Fin n → Fin 512 → EReal) (b : Fin n → EReal) (v : Fin 512 → EReal) (g : Fin n) : EReal :=
  ∑ d, v d * w g d + b g

/-- The candidate state, from the input's and the state's projections. -/
def cand (a g : Fin 1536 → EReal) (j : Fin 512) : EReal :=
  Ideal.tanh (a (col2 j) + Ideal.logistic (a (col0 j) + g (col0 j)) * g (col2 j))

/-- The update gate, from the two projections. -/
def upd (a g : Fin 1536 → EReal) (j : Fin 512) : EReal := Ideal.logistic (a (col1 j) + g (col1 j))

/-- A step as `n + z (h - n)`. -/
def blend (n z h : EReal) : EReal := n + z * (h - n)

/-- A step as `(1 - z) n + z h`. -/
def mix (n z h : EReal) : EReal := (1 - z) * n + z * h

/-- The states of the recurrence from zero, at each batch row, each step by the blend `f` of candidate, gate and state. -/
def state (f : EReal → EReal → EReal → EReal) (wi wh : Fin 1536 → Fin 512 → EReal) (bi bh : Fin 1536 → EReal)
    (x : ℕ → Fin 16 → Fin 512 → EReal) : ℕ → Fin 16 → Fin 512 → EReal
  | 0 => fun _ _ => 0
  | k + 1 => fun b j =>
    f (cand (proj wi bi (x k b)) (proj wh bh (state f wi wh bi bh x k b)) j)
      (upd (proj wi bi (x k b)) (proj wh bh (state f wi wh bi bh x k b)) j) (state f wi wh bi bh x k b j)

/-- A hyperbolic tangent is a real number, of whatever it is taken. -/
theorem tanh_real (x : EReal) : ∃ r : ℝ, Ideal.tanh x = r := by
  induction x using EReal.rec with
  | bot => exact ⟨-1, by rw [Ideal.tanh_bot, EReal.coe_neg, EReal.coe_one]⟩
  | coe r => exact ⟨_, Ideal.tanh_coe r⟩
  | top => exact ⟨1, by rw [Ideal.tanh_top, EReal.coe_one]⟩

/-- A logistic is a real number, of whatever it is taken. -/
theorem logistic_real (x : EReal) : ∃ r : ℝ, Ideal.logistic x = r := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- Of real numbers the two ways to write a step agree. -/
theorem mix_eq_blend (n z h : ℝ) : mix (n : EReal) z h = blend n z h := by
  unfold mix blend
  rw [← EReal.coe_one]
  norm_cast
  ring

/-- Of real numbers a step is a real number. -/
theorem blend_real (n z h : ℝ) : ∃ r : ℝ, blend (n : EReal) z h = r :=
  ⟨n + z * (h - n), by unfold blend; norm_cast⟩

section

variable (wi wh : Fin 1536 → Fin 512 → EReal) (bi bh : Fin 1536 → EReal) (x : ℕ → Fin 16 → Fin 512 → EReal)

/-- Every state of the recurrence is real. -/
theorem state_real : ∀ k b j, ∃ r : ℝ, state blend wi wh bi bh x k b j = r
  | 0, _, _ => ⟨0, EReal.coe_zero.symm⟩
  | k + 1, b, j => by
    obtain ⟨n, hn⟩ := tanh_real (proj wi bi (x k b) (col2 j)
      + Ideal.logistic (proj wi bi (x k b) (col0 j) + proj wh bh (state blend wi wh bi bh x k b) (col0 j))
        * proj wh bh (state blend wi wh bi bh x k b) (col2 j))
    obtain ⟨z, hz⟩ := logistic_real (proj wi bi (x k b) (col1 j) + proj wh bh (state blend wi wh bi bh x k b) (col1 j))
    obtain ⟨h, hh⟩ := state_real k b j
    obtain ⟨r, hr⟩ := blend_real n z h
    exact ⟨r, by rw [← hr, ← hn, ← hz, ← hh]; rfl⟩

/-- The states are the same whichever way the step is written. -/
theorem state_mix : ∀ k, state mix wi wh bi bh x k = state blend wi wh bi bh x k
  | 0 => rfl
  | k + 1 => by
    funext b j
    obtain ⟨n, hn⟩ := tanh_real (proj wi bi (x k b) (col2 j)
      + Ideal.logistic (proj wi bi (x k b) (col0 j) + proj wh bh (state blend wi wh bi bh x k b) (col0 j))
        * proj wh bh (state blend wi wh bi bh x k b) (col2 j))
    obtain ⟨z, hz⟩ := logistic_real (proj wi bi (x k b) (col1 j) + proj wh bh (state blend wi wh bi bh x k b) (col1 j))
    obtain ⟨h, hh⟩ := state_real wi wh bi bh x k b j
    unfold state
    rw [state_mix k]
    unfold cand upd
    rw [hn, hz, hh]
    exact mix_eq_blend n z h

end

end Cert.Gru

end
-- ==== Proof.Kern.Read.lean ====
/-
  One grid point's values over the extended reals, at an index: its 32 states are the next 32 states of the recurrence,
  and its block of the output is their projection.
-/
module

public import proofs.«01_k».proof.Proof.Kern.Point
public import proofs.«01_k».proof.Proof.Gru
public import Idealize.ShloMosaic.Lib.Pointwise

@[expose] public section

set_option maxRecDepth 16384

noncomputable section

namespace Cert.KernelIdeal.Cell

open Cert Cert.KernelIdeal Cert.KernelIdeal.Gen Idealize.ShloMosaic Idealize.ShloMosaic.TcCoe

/-- One step at an index. -/
theorem step_apply (w : FVec Ideal S512x1536 .bf16) (b : FVec Ideal S1x1536 .f32) (xg : FVec Ideal S16x1536 .f32)
    (h : FVec Ideal S16x512 .f32) (p : Fin 16) (j : Fin 512) :
    step w b xg h (ix2 p j)
      = Gru.blend
          (Gru.cand (fun g => xg (ix2 p g)) (Gru.proj (fun g d => w (ix2 d g)) (fun g => b (ix2 0 g)) fun d => h (ix2 p d)) j)
          (Gru.upd (fun g => xg (ix2 p g)) (Gru.proj (fun g d => w (ix2 d g)) (fun g => b (ix2 0 g)) fun d => h (ix2 p d)) j)
          (h (ix2 p j)) := by
  unfold step
  pointwise [blend, upd, cand, gates, part0, part1, part2]
  rfl

/-- The block's input projection at an index. -/
theorem pay6_apply (x0 : Vec Ideal S512x512 .bf16) (x1 : Vec Ideal S512x1536 .bf16) (x4 : Vec Ideal S1x1536 .f32)
    (p : Fin 512) (g : Fin 1536) :
    k0_pay6 x0 x1 x4 (ix2 p g) = Gru.proj (fun g d => x1 (ix2 d g)) (fun g => x4 (ix2 0 g)) (fun d => x0 (ix2 p d)) g := by
  pointwise [k0_pay6]
  rfl

/-- The block of the output at an index. -/
theorem pay4_apply (l : Vec Ideal S512x512 .bf16) (x3 : Vec Ideal S512x512 .bf16) (x6 : Vec Ideal S1x512 .f32)
    (p o : Fin 512) :
    k0_pay4 l x3 x6 (ix2 p o) = Gru.proj (fun o d => x3 (ix2 d o)) (fun o => x6 (ix2 0 o)) (fun d => l (ix2 p d)) o := by
  pointwise [k0_pay4]
  rfl

/-- The state that the first point starts from is zero. -/
theorem pay5_apply (p : Fin 16) (j : Fin 512) : (k0_pay5 : FVec Ideal S16x512 .f32) (ix2 p j) = 0 := by
  pointwise [k0_pay5]

section

variable (wi wh : Fin 1536 → Fin 512 → EReal) (bi bh : Fin 1536 → EReal) (X : ℕ → Fin 16 → Fin 512 → EReal)
  {x0 : Vec Ideal S512x512 .bf16} {x1 x2 : Vec Ideal S512x1536 .bf16} {x4 x5 : Vec Ideal S1x1536 .f32}
  {h : FVec Ideal S16x512 .f32} {t : ℕ}
  (e0 : ∀ p d, x0 (ix2 p d) = X (32 * t + p.val / 16) (Gru.batch p.val) d)
  (e1 : ∀ d g, x1 (ix2 d g) = wi g d) (e2 : ∀ d g, x2 (ix2 d g) = wh g d)
  (e4 : ∀ g, x4 (ix2 0 g) = bi g) (e5 : ∀ g, x5 (ix2 0 g) = bh g)
  (eh : ∀ b j, h (ix2 b j) = Gru.state Gru.blend wi wh bi bh X (32 * t) b j)

include e0 e1 e2 e4 e5 eh

/-- The point's states are the next 32 of the recurrence. -/
theorem pointStates_apply : ∀ k ≤ 32, ∀ b j,
    pointStates x0 x1 x2 x4 x5 h k (ix2 b j) = Gru.state Gru.blend wi wh bi bh X (32 * t + k) b j
  | 0, _, b, j => eh b j
  | k + 1, hk, b, j => by
    have ih := pointStates_apply k (by omega)
    have hrow : (fun g => xgRows (k0_pay6 x0 x1 x4) k (ix2 b g)) = Gru.proj wi bi (X (32 * t + k) b) := by
      funext g
      have hb := b.isLt
      refine (pay6_apply x0 x1 x4 ⟨16 * (k % 32) + b.val, by omega⟩ g).trans ?_
      simp only [e0, e1, e4]
      refine congrArg (fun v => Gru.proj wi bi v g) (congrArg₂ X ?_ (Fin.ext ?_))
      · show 32 * t + (16 * (k % 32) + b.val) / 16 = 32 * t + k; omega
      · show (16 * (k % 32) + b.val) % 16 = b.val; omega
    have hst : (fun d => pointStates x0 x1 x2 x4 x5 h k (ix2 b d)) = Gru.state Gru.blend wi wh bi bh X (32 * t + k) b :=
      funext fun d => ih b d
    have hw : (fun (g : Fin 1536) (d : Fin 512) => k0_pay7 x2 (ix2 d g)) = wh := by
      funext g d; unfold k0_pay7; rw [shapeCast_self]; exact e2 d g
    have hbias : (fun (g : Fin 1536) => k0_pay8 x5 (ix2 0 g)) = bh := by
      funext g; unfold k0_pay8; rw [shapeCast_self]; exact e5 g
    refine (step_apply (k0_pay7 x2) (k0_pay8 x5) (xgRows (k0_pay6 x0 x1 x4) k) (pointStates x0 x1 x2 x4 x5 h k) b j).trans ?_
    rw [hrow, hst, hw, hbias, ih b j]
    rfl

/-- Row `p` of the collected states is the state after step `p / 16` at batch row `p % 16`. -/
theorem lat_apply (p d : Fin 512) : lat (pointStates x0 x1 x2 x4 x5 h) (ix2 p d)
    = Gru.state Gru.blend wi wh bi bh X (32 * t + (p.val / 16 + 1)) (Gru.batch p.val) d := by
  have hp := p.isLt
  exact pointStates_apply wi wh bi bh X e0 e1 e2 e4 e5 eh (p.val / 16 + 1) (by omega) _ _

end

end Cert.KernelIdeal.Cell

end
-- ==== Proof.Kern.Blocks.lean ====
/-
  What the kernel's host prefix puts in the arrays it hands over, and which part of each array a grid point's block is:
  point `t` takes rows `512 t … 512 t + 511` of the input and the whole of every weight and bias.
-/
module

public import proofs.«01_k».proof.Proof.Gen.KernelIdeal.Value
public import proofs.«01_k».proof.Proof.Gru
public import Idealize.ShloMosaic.Lib.Pointwise
public import Idealize.ShloMosaic.Lib.Claim
public import Idealize.ShloMosaic.Lib.Pipeline.ValueKit.Point

@[expose] public section

set_option maxRecDepth 16384

noncomputable section

namespace Cert.KernelIdeal.Cell

open Cert Cert.KernelIdeal Cert.KernelIdeal.Gen Idealize.ShloMosaic Idealize.ShloMosaic.TcCoe

variable (m : (ℓ : Loc nD τ sig) → Buf (Elt Ideal) ℓ) (c : Dev nD)

/-! ## The arguments, as the recurrence takes them -/

/-- The input at time `k` (of 512), batch row `b`, feature `d`. -/
def inX (k : ℕ) (b : Fin 16) (d : Fin 512) : EReal :=
  (m ((c : Thread nD τ).loc main_arg0) : Vec Ideal S512x16x512 .f32) (ix3 (⟨k % 512, Nat.mod_lt _ (by decide)⟩ : Fin 512) b d)
/-- The input's weight. -/
def inWi (g : Fin 1536) (d : Fin 512) : EReal := (m ((c : Thread nD τ).loc main_arg1) : Vec Ideal S1536x512 .f32) (ix2 g d)
/-- The input's bias. -/
def inBi (g : Fin 1536) : EReal := (m ((c : Thread nD τ).loc main_arg3) : Vec Ideal S1536 .f32) (ix1 g)
/-- The state's weight. -/
def inWh (g : Fin 1536) (d : Fin 512) : EReal := (m ((c : Thread nD τ).loc main_arg2) : Vec Ideal S1536x512 .f32) (ix2 g d)
/-- The state's bias. -/
def inBh (g : Fin 1536) : EReal := (m ((c : Thread nD τ).loc main_arg4) : Vec Ideal S1536 .f32) (ix1 g)
/-- The output's weight. -/
def inWo (o d : Fin 512) : EReal := (m ((c : Thread nD τ).loc main_arg5) : Vec Ideal S512x512 .f32) (ix2 o d)
/-- The output's bias. -/
def inBo (o : Fin 512) : EReal := (m ((c : Thread nD τ).loc main_arg6) : Vec Ideal S512 .f32) (ix1 o)

/-! ## The arrays at the kernel's entry -/

/-- Row `r` of the flattened input is time `r / 16`, batch row `r % 16`. -/
theorem entry_x (r : Fin 8192) (d : Fin 512) : (V m c main_v1 : Vec Ideal S8192x512 .bf16) (ix2 r d)
    = (m ((c : Thread nD τ).loc main_arg0) : Vec Ideal S512x16x512 .f32)
        (ix3 (⟨r.val / 16, by omega⟩ : Fin 512) (⟨r.val % 16, by omega⟩ : Fin 16) d) := by
  entry_read
  pointwise

/-- The input's weight is handed over transposed. -/
theorem entry_wi (d : Fin 512) (g : Fin 1536) : (V m c main_v3 : Vec Ideal S512x1536 .bf16) (ix2 d g) = inWi m c g d := by
  unfold inWi
  entry_read
  pointwise

/-- The state's weight is handed over transposed. -/
theorem entry_wh (d : Fin 512) (g : Fin 1536) : (V m c main_v5 : Vec Ideal S512x1536 .bf16) (ix2 d g) = inWh m c g d := by
  unfold inWh
  entry_read
  pointwise

/-- The output's weight is handed over transposed. -/
theorem entry_wo (d o : Fin 512) : (V m c main_v7 : Vec Ideal S512x512 .bf16) (ix2 d o) = inWo m c o d := by
  unfold inWo
  entry_read
  pointwise

/-- The input's bias is handed over as one row. -/
theorem entry_bi (g : Fin 1536) : (V m c main_v8 : Vec Ideal S1x1536 .f32) (ix2 0 g) = inBi m c g := by
  unfold inBi
  entry_read
  pointwise

/-- The state's bias is handed over as one row. -/
theorem entry_bh (g : Fin 1536) : (V m c main_v9 : Vec Ideal S1x1536 .f32) (ix2 0 g) = inBh m c g := by
  unfold inBh
  entry_read
  pointwise

/-- The output's bias is handed over as one row. -/
theorem entry_bo (o : Fin 512) : (V m c main_v10 : Vec Ideal S1x512 .f32) (ix2 0 o) = inBo m c o := by
  unfold inBo
  entry_read
  pointwise

/-! ## A point's blocks -/

/-- The block each input window takes at a point. -/
theorem index_in : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

variable (t : Fin cfg0.N)

/-- Row `p` of point `t`'s block of the input is time `32 t + p / 16`, batch row `p % 16`. -/
theorem block_x (p d : Fin 512) : (iblk m c 0 t : Vec Ideal S512x512 .bf16) (ix2 p d)
    = inX m c (32 * t.val + p.val / 16) (Gru.batch p.val) d := by
  have ht : t.val < 16 := lt_of_lt_of_eq t.isLt N_0
  have hp := p.isLt
  have e : (iblk m c 0 t : Vec Ideal S512x512 .bf16) (ix2 p d)
      = (V m c main_v1 : Vec Ideal S8192x512 .bf16) (ix2 (⟨512 * t.val + p.val, by omega⟩ : Fin 8192) d) := by
    blk_ext [iblk, V, index_in t]
  refine e.trans ((entry_x m c _ d).trans ?_)
  unfold inX
  refine congrArg (m ((c : Thread nD τ).loc main_arg0) : Vec Ideal S512x16x512 .f32) ?_
  funext a; apply Fin.ext
  fin_cases a
  · show (512 * t.val + p.val) / 16 = (32 * t.val + p.val / 16) % 512; omega
  · show (512 * t.val + p.val) % 16 = p.val % 16; omega
  · rfl

/-- Every point's block of the input's weight is the whole array. -/
theorem block_wi (d : Fin 512) (g : Fin 1536) : (iblk m c 1 t : Vec Ideal S512x1536 .bf16) (ix2 d g) = inWi m c g d := by
  refine Eq.trans ?_ (entry_wi m c d g)
  blk_ext [iblk, V, index_in t]

/-- Every point's block of the state's weight is the whole array. -/
theorem block_wh (d : Fin 512) (g : Fin 1536) : (iblk m c 2 t : Vec Ideal S512x1536 .bf16) (ix2 d g) = inWh m c g d := by
  refine Eq.trans ?_ (entry_wh m c d g)
  blk_ext [iblk, V, index_in t]

/-- Every point's block of the output's weight is the whole array. -/
theorem block_wo (d o : Fin 512) : (iblk m c 3 t : Vec Ideal S512x512 .bf16) (ix2 d o) = inWo m c o d := by
  refine Eq.trans ?_ (entry_wo m c d o)
  blk_ext [iblk, V, index_in t]

/-- Every point's block of the input's bias is the whole array. -/
theorem block_bi (g : Fin 1536) : (iblk m c 4 t : Vec Ideal S1x1536 .f32) (ix2 0 g) = inBi m c g := by
  refine Eq.trans ?_ (entry_bi m c g)
  blk_ext [iblk, V, index_in t]

/-- Every point's block of the state's bias is the whole array. -/
theorem block_bh (g : Fin 1536) : (iblk m c 5 t : Vec Ideal S1x1536 .f32) (ix2 0 g) = inBh m c g := by
  refine Eq.trans ?_ (entry_bh m c g)
  blk_ext [iblk, V, index_in t]

/-- Every point's block of the output's bias is the whole array. -/
theorem block_bo (o : Fin 512) : (iblk m c 6 t : Vec Ideal S1x512 .f32) (ix2 0 o) = inBo m c o := by
  refine Eq.trans ?_ (entry_bo m c o)
  blk_ext [iblk, V, index_in t]

end Cert.KernelIdeal.Cell

end
-- ==== Proof.Kern.Array.lean ====
/-
  The kernel's two results over the extended reals. By induction over the 16 grid points, point `t` starts from the state
  after `32 t` steps; so the final state is the one after 512 steps, and row `r` of the output is the projection of the
  state after step `r / 16` at batch row `r % 16`.
-/
module

public import proofs.«01_k».proof.Proof.Kern.Read
public import proofs.«01_k».proof.Proof.Kern.Blocks

@[expose] public section

set_option maxRecDepth 16384

noncomputable section

namespace Cert.KernelIdeal.Cell

open Cert Cert.KernelIdeal Cert.KernelIdeal.Gen Cert.KernelIdeal.Value Idealize.ShloMosaic Idealize.ShloMosaic.TcCoe

variable (m : (ℓ : Loc nD τ sig) → Buf (Elt Ideal) ℓ) (c : Dev nD)

/-- The recurrence's states from the kernel's arguments. -/
abbrev H : ℕ → Fin 16 → Fin 512 → EReal :=
  Gru.state Gru.blend (inWi m c) (inWh m c) (inBi m c) (inBh m c) (inX m c)

/-- Point `t`'s states, from the state `h` that it starts from. -/
abbrev statesAt (t : Fin cfg0.N) (h : FVec Ideal S16x512 .f32) : ℕ → FVec Ideal S16x512 .f32 :=
  pointStates (F := Ideal) (iblk m c 0 t) (iblk m c 1 t) (iblk m c 2 t) (iblk m c 4 t) (iblk m c 5 t) h

/-- What point `t` leaves, from the state `h` that it starts from: the output's block, the final state's, the scratch. -/
abbrev leaves (t : Fin cfg0.N) (h : FVec Ideal S16x512 .f32) :
    Vec Ideal S512x512 .f32 × Vec Ideal S16x512 .f32 × Vec Ideal S16x512 .f32 :=
  (k0_pay4 (F := Ideal) (lat (statesAt m c t h)) (iblk m c 3 t) (iblk m c 6 t), statesAt m c t h 32, statesAt m c t h 32)

/-- The first point starts from zero. -/
theorem outs_first (t : Fin cfg0.N) (h0 : t.val % 16 = 0) : outsAt0 m c t.val t.isLt = leaves m c t k0_pay5 := by
  rw [outsAt0_A m c t h0, out7_A, out8_A, sout_A]

/-- A later point starts from what the point before left in the scratch. -/
theorem outs_later (t : Fin cfg0.N) (h0 : ¬t.val % 16 = 0) : outsAt0 m c t.val t.isLt
    = leaves m c t (outsAt0 m c (t.val - 1) (Nat.lt_of_le_of_lt (Nat.sub_le _ _) t.isLt)).2.2 := by
  rw [outsAt0_B m c t h0, out7_B, out8_B, sout_B]

/-- From the state after `32 t` steps point `t` reaches the next 32 states. -/
theorem statesAt_apply (t : Fin cfg0.N) {h : FVec Ideal S16x512 .f32} (eh : ∀ b j, h (ix2 b j) = H m c (32 * t.val) b j)
    (k : ℕ) (hk : k ≤ 32) (b : Fin 16) (j : Fin 512) : statesAt m c t h k (ix2 b j) = H m c (32 * t.val + k) b j :=
  pointStates_apply _ _ _ _ _ (block_x m c t) (block_wi m c t) (block_wh m c t) (block_bi m c t) (block_bh m c t) eh k hk b j

/-- Every point starts from the state after `32 t` steps. -/
theorem outs_eq : ∀ (n : ℕ) (hn : n < cfg0.N), ∃ h : FVec Ideal S16x512 .f32,
    (∀ b j, h (ix2 b j) = H m c (32 * n) b j) ∧ outsAt0 m c n hn = leaves m c ⟨n, hn⟩ h
  | 0, hn => ⟨k0_pay5, fun b j => pay5_apply b j, outs_first m c ⟨0, hn⟩ rfl⟩
  | n + 1, hn => by
    obtain ⟨h, eh, e⟩ := outs_eq n (Nat.lt_of_succ_lt hn)
    have h16 : n + 1 < 16 := lt_of_lt_of_eq hn N_0
    refine ⟨_, fun b j => ?_, outs_later m c ⟨n + 1, hn⟩ (by show ¬(n + 1) % 16 = 0; omega)⟩
    show (outsAt0 m c n _).2.2 (ix2 b j) = _
    rw [e]
    exact statesAt_apply m c ⟨n, _⟩ eh 32 le_rfl b j

/-- The output's array at an index. -/
theorem G7_apply (r : Fin 8192) (o : Fin 512) : G7 m c (ix2 r o)
    = Gru.proj (inWo m c) (inBo m c) (H m c (r.val / 16 + 1) (Gru.batch r.val)) o := by
  have hr := r.isLt
  have ho := o.isLt
  have hp : pt7Of (ix2 r o) = r.val / 512 := by
    show 1 * (r.val / 512 - 0) + 1 * (o.val / 512 - 0) = _; omega
  have hN : r.val / 512 < cfg0.N := lt_of_lt_of_eq (by omega) N_0.symm
  unfold G7
  rw [dif_pos (by rw [hp]; exact hN), fold0_congr m c _ _ (r.val / 512) (by omega) hp, ← outsAt0_sweep m c _ hN]
  obtain ⟨h, eh, e⟩ := outs_eq m c _ hN
  rw [e]
  have hl : loc7Of (ix2 r o) = ix2 (⟨r.val % 512, Nat.mod_lt _ (by decide)⟩ : Fin 512) o := by
    funext a; apply Fin.ext
    fin_cases a
    · rfl
    · show o.val % 512 = o.val; omega
  rw [hl]
  refine (pay4_apply _ _ _ _ _).trans ?_
  simp only [block_wo, block_bo]
  refine congrArg (fun v => Gru.proj (inWo m c) (inBo m c) v o) (funext fun d => ?_)
  refine (lat_apply _ _ _ _ _ (block_x m c _) (block_wi m c _) (block_wh m c _) (block_bi m c _) (block_bh m c _) eh _ d).trans ?_
  show H m c (32 * (r.val / 512) + (r.val % 512 / 16 + 1)) _ d = _
  refine congrFun (congrArg₂ (H m c) ?_ (Fin.ext ?_)) d
  · omega
  · show r.val % 512 % 16 = r.val % 16; omega

/-- The final state's array at an index. -/
theorem G8_apply (b : Fin 16) (j : Fin 512) : G8 m c (ix2 b j) = H m c 512 b j := by
  have hb := b.isLt
  have hj := j.isLt
  have hp : pt8Of (ix2 b j) = 15 := by
    show 16 * (1 * (b.val / 16 - 0) + 1 * (j.val / 512 - 0)) + 15 = 15; omega
  have hN : 15 < cfg0.N := lt_of_lt_of_eq (by decide) N_0.symm
  unfold G8
  rw [dif_pos (by rw [hp]; exact hN), fold0_congr m c _ _ 15 (by omega) hp, ← outsAt0_sweep m c _ hN]
  obtain ⟨h, eh, e⟩ := outs_eq m c _ hN
  rw [e]
  have hl : loc8Of (ix2 b j) = ix2 b j := by
    funext a; apply Fin.ext
    fin_cases a
    · show b.val % 16 = b.val; omega
    · show j.val % 512 = j.val; omega
  rw [hl]
  exact statesAt_apply m c ⟨15, hN⟩ eh 32 le_rfl b j

end Cert.KernelIdeal.Cell

end
-- ==== Proof.Ref.Trip.lean ====
/-
  One trip of the reference's loop at an index, from any contents whose counter is `k`: the row of the input's projection
  that it takes, the state's projection, the next state, and the row of the collected states that it writes.
-/
module

public import proofs.«01_k».proof.Proof.Gen.ReferenceIdeal.Run
public import proofs.«01_k».proof.Proof.Gru
public import Idealize.ShloMosaic.Lib.Pointwise
public import Idealize.ShloMosaic.Lib.WordCmp

@[expose] public section

set_option maxRecDepth 16384

noncomputable section

namespace Cert.ReferenceIdeal.Loop

open Cert Cert.ReferenceIdeal Cert.ReferenceIdeal.Gen Cert.ReferenceIdeal.Value Idealize.ShloMosaic Idealize.ShloMosaic.TcCoe

/-- The contents that a trip starts from. -/
abbrev Mem : Type := Valuation τ sig (Elt Ideal)

variable (W : Mem)

/-- The carried buffer of the input's projection. -/
abbrev xg : Vec Ideal S512x16x1536 .f32 := W (Proc.devRef .tc main_v6_0)
/-- The carried buffer of the state's weight. -/
abbrev wh : Vec Ideal S1536x512 .f32 := W (Proc.devRef .tc main_v6_1)
/-- The carried buffer of the state's bias. -/
abbrev bh : Vec Ideal S1536 .f32 := W (Proc.devRef .tc main_v6_2)
/-- The carried buffer of the counter. -/
abbrev ctr : (⟨S_, .i32⟩ : BufTy).Contents (Elt Ideal) := W (Proc.devRef .tc main_v6_3)
/-- The carried buffer of the state. -/
abbrev hid : Vec Ideal S16x512 .f32 := W (Proc.devRef .tc main_v6_4)
/-- The carried buffer of the states so far. -/
abbrev outs : Vec Ideal S512x16x512 .f32 := W (Proc.devRef .tc main_v6_5)

/-- A row's number below 512, read signed, is itself. -/
theorem toInt_row (k : Fin 512) : (BitVec.ofNat 32 k.val).toInt = k.val := by
  have e := BitVec.toInt_ofNat (n := 32) (x := k.val)
  rw [Int.bmod_eq_of_le (by omega) (by omega)] at e
  exact e

/-- Where the trip reads and writes: row `k`, from column zero of the other axes. -/
theorem start_eq {k : Fin 512} (hc : ctr W = fun _ => BitVec.ofNat 32 k.val) (a : Fin 3) :
    ((![W (Proc.devRef .tc main_v6_3), constantI S_ 32 0#32, constantI S_ 32 0#32] : Fin 3 → (⟨S_, .i32⟩ : BufTy).Contents (Elt Ideal))
      a (Shape.Idx.first h_S_)).toInt = ((![k.val, 0, 0] : Fin 3 → ℕ) a : ℤ) := by
  fin_cases a
  · exact (congrArg (fun v : (⟨S_, .i32⟩ : BufTy).Contents (Elt Ideal) => (v (Shape.Idx.first h_S_)).toInt) hc).trans (toInt_row k)
  · rfl
  · rfl

/-- The trip takes row `k` of the input's projection. -/
theorem row_apply {k : Fin 512} (hc : ctr W = fun _ => BitVec.ofNat 32 k.val) (b : Fin 16) (g : Fin 1536) :
    res_main_while0b_v13 W (ix2 b g) = xg W (ix3 k b g) := by
  unfold res_main_while0b_v13
  have hs : S512x16x1536.Slices ![k.val, 0, 0] S1x16x1536 := ⟨rfl, fun a => by have := k.isLt; fin_cases a <;> simp <;> omega⟩
  refine (congrFun (congrArg (fun v => shapeCast S16x1536 v shapeCasts_S1x16x1536_S16x1536)
    (WordCmp.dynamicSlice_eq_extract S1x16x1536 (xg W) _ sliceFits_S512x16x1536_S1x16x1536 ![k.val, 0, 0] hs (start_eq W hc)))
    (ix2 b g)).trans ?_
  pointwise

/-- The state's projection. -/
theorem gates_apply (b : Fin 16) (g : Fin 1536) : res_main_while0b_v18 W (ix2 b g)
    = Gru.proj (fun g d => wh W (ix2 g d)) (fun g => bh W (ix1 g)) (fun d => hid W (ix2 b d)) g := by
  pointwise [res_main_while0b_v18]
  rfl

/-- The next state. -/
theorem next_apply (b : Fin 16) (j : Fin 512) : res_main_while0b_v46 W (ix2 b j)
    = Gru.mix (Gru.cand (fun g => res_main_while0b_v13 W (ix2 b g)) (fun g => res_main_while0b_v18 W (ix2 b g)) j)
        (Gru.upd (fun g => res_main_while0b_v13 W (ix2 b g)) (fun g => res_main_while0b_v18 W (ix2 b g)) j) (hid W (ix2 b j)) := by
  pointwise [res_main_while0b_v46, res_main_while0b_v38]
  rfl

/-- The trip writes the next state to row `k` of the collected states and leaves the other rows. -/
theorem outs_apply {k : Fin 512} (hc : ctr W = fun _ => BitVec.ofNat 32 k.val) (i : Fin 512) (b : Fin 16) (j : Fin 512) :
    (step_main_v6_5 W : Vec Ideal S512x16x512 .f32) (ix3 i b j)
      = if i = k then res_main_while0b_v46 W (ix2 b j) else outs W (ix3 i b j) := by
  unfold step_main_v6_5
  have hs : S512x16x512.Slices ![k.val, 0, 0] S1x16x512 := ⟨rfl, fun a => by have := k.isLt; fin_cases a <;> simp <;> omega⟩
  refine (congrFun (WordCmp.dynamicUpdateSlice_eq_update (outs W) _ _ updateFits_S512x16x512_S1x16x512 ![k.val, 0, 0] hs
    (start_eq W hc)) (ix3 i b j)).trans ?_
  unfold updateSlice
  by_cases hik : i = k
  · subst hik
    rw [if_pos rfl, dif_pos (fun a => by have := b.isLt; have := j.isLt; fin_cases a <;> simp)]
    pointwise
  · rw [if_neg hik, dif_neg (fun h => hik (Fin.ext ?_))]
    have h0 := h 0
    change k.val ≤ i.val ∧ i.val < k.val + 1 at h0
    omega

end Cert.ReferenceIdeal.Loop

end
-- ==== Proof.Ref.Loop.lean ====
/-
  The reference's two results over the extended reals. By induction over the trips, after `k` of them the carried state
  is the recurrence's after `k` steps and the first `k` rows of the collected states are the states so far; so the final
  state is the one after 512 steps, and row `r` of the output is the projection of the state after step `r / 16`.
-/
module

public import proofs.«01_k».proof.Proof.Ref.Trip
public import Idealize.ShloMosaic.Lib.Claim

@[expose] public section

set_option maxRecDepth 16384

noncomputable section

namespace Cert.ReferenceIdeal.Loop

open Cert Cert.ReferenceIdeal Cert.ReferenceIdeal.Gen Cert.ReferenceIdeal.Value Idealize.ShloMosaic Idealize.ShloMosaic.TcCoe
open Idealize.ShloMosaic.StableHlo

variable (m : (ℓ : Loc nD τ sig) → Buf (Elt Ideal) ℓ) (c : Dev nD)

/-! ## The arguments, as the recurrence takes them -/

/-- The input at time `k` (of 512), batch row `b`, feature `d`. -/
def inX (k : ℕ) (b : Fin 16) (d : Fin 512) : EReal :=
  (m ((c.tc : Thread nD τ).loc main_arg0) : Vec Ideal S512x16x512 .f32) (ix3 (⟨k % 512, Nat.mod_lt _ (by decide)⟩ : Fin 512) b d)
/-- The input's weight. -/
def inWi (g : Fin 1536) (d : Fin 512) : EReal := (m ((c.tc : Thread nD τ).loc main_arg1) : Vec Ideal S1536x512 .f32) (ix2 g d)
/-- The input's bias. -/
def inBi (g : Fin 1536) : EReal := (m ((c.tc : Thread nD τ).loc main_arg3) : Vec Ideal S1536 .f32) (ix1 g)
/-- The state's weight. -/
def inWh (g : Fin 1536) (d : Fin 512) : EReal := (m ((c.tc : Thread nD τ).loc main_arg2) : Vec Ideal S1536x512 .f32) (ix2 g d)
/-- The state's bias. -/
def inBh (g : Fin 1536) : EReal := (m ((c.tc : Thread nD τ).loc main_arg4) : Vec Ideal S1536 .f32) (ix1 g)
/-- The output's weight. -/
def inWo (o d : Fin 512) : EReal := (m ((c.tc : Thread nD τ).loc main_arg5) : Vec Ideal S512x512 .f32) (ix2 o d)
/-- The output's bias. -/
def inBo (o : Fin 512) : EReal := (m ((c.tc : Thread nD τ).loc main_arg6) : Vec Ideal S512 .f32) (ix1 o)

/-- The recurrence's states from the reference's arguments. -/
abbrev H : ℕ → Fin 16 → Fin 512 → EReal :=
  Gru.state Gru.mix (inWi m c) (inWh m c) (inBi m c) (inBh m c) (inX m c)

/-! ## The loop's entry -/

/-- The contents that the loop starts from. -/
abbrev E : Mem := entryContents preI m c

/-- What the host leaves as the input's projection before the loop. -/
theorem entry_xg_eq : xg (E m c) = addf (F := Ideal) (Host.dotGeneral (F := Ideal) (φ₁ := .f32) (φ₂ := .f32) dot_S512x16x512_S1536x512_S512x16x1536_2_1_01_0_n_n none
      (m ((c.tc : Thread nD τ).loc main_arg0) : Vec Ideal S512x16x512 .f32) (m ((c.tc : Thread nD τ).loc main_arg1) : Vec Ideal S1536x512 .f32))
    (broadcastInDim S512x16x1536 ![0, 1, 2] bcast_S1x1x1536_S512x16x1536_0_1_2
      (broadcastInDim S1x1x1536 ![2] bcast_S1536_S1x1x1536_2 (m ((c.tc : Thread nD τ).loc main_arg3) : Vec Ideal S1536 .f32))) := by
  unfold xg E
  simp only [entryContents, afterL_cons, afterL_nil]
  after_reads_simp
  rfl

/-- The input's projection is done before the loop, for every row. -/
theorem entry_xg (k : Fin 512) (b : Fin 16) (g : Fin 1536) :
    xg (E m c) (ix3 k b g) = Gru.proj (inWi m c) (inBi m c) (inX m c k.val b) g := by
  have hx : inX m c k.val b = fun d => (m ((c.tc : Thread nD τ).loc main_arg0) : Vec Ideal S512x16x512 .f32) (ix3 k b d) := by
    funext d
    unfold inX
    refine congrArg (fun i : Fin 512 => (m ((c.tc : Thread nD τ).loc main_arg0) : Vec Ideal S512x16x512 .f32) (ix3 i b d)) (Fin.ext ?_)
    exact Nat.mod_eq_of_lt k.isLt
  rw [hx, entry_xg_eq]
  pointwise
  rfl

/-- The state's weight is the argument. -/
theorem entry_wh : wh (E m c) = m ((c.tc : Thread nD τ).loc main_arg2) := by
  unfold wh E
  simp only [entryContents, afterL_cons, afterL_nil]
  after_reads_simp
  rfl

/-- The state's bias is the argument. -/
theorem entry_bh : bh (E m c) = m ((c.tc : Thread nD τ).loc main_arg4) := by
  unfold bh E
  simp only [entryContents, afterL_cons, afterL_nil]
  after_reads_simp
  rfl

/-- What the host leaves as the state before the loop. -/
theorem entry_hid_eq : hid (E m c) = broadcastInDim S16x512 ![] bcast_S_S16x512 (constant (F := Ideal) S_ .f32 0x00000000#32) := by
  unfold hid E
  simp only [entryContents, afterL_cons, afterL_nil]
  after_reads_simp
  rfl

/-- The state starts at zero. -/
theorem entry_hid (b : Fin 16) (j : Fin 512) : hid (E m c) (ix2 b j) = 0 := by
  rw [entry_hid_eq]
  pointwise

/-! ## The trips -/

/-- What the carried buffers hold after `k` trips. -/
structure Holds (k : ℕ) (W : Mem) : Prop where
  xg : ∀ i b g, xg W (ix3 i b g) = Gru.proj (inWi m c) (inBi m c) (inX m c i.val b) g
  wh : ∀ g d, wh W (ix2 g d) = inWh m c g d
  bh : ∀ g, bh W (ix1 g) = inBh m c g
  ctr : ctr W = fun _ => BitVec.ofNat 32 k
  hid : ∀ b j, hid W (ix2 b j) = H m c k b j
  outs : ∀ i : Fin 512, i.val < k → ∀ b j, outs W (ix3 i b j) = H m c (i.val + 1) b j

/-- The state that trip `k` computes. -/
theorem next_eq {k : Fin 512} {W : Mem} (h : Holds m c k.val W) (b : Fin 16) (j : Fin 512) :
    res_main_while0b_v46 W (ix2 b j) = H m c (k.val + 1) b j := by
  have hx : (fun g => res_main_while0b_v13 W (ix2 b g)) = Gru.proj (inWi m c) (inBi m c) (inX m c k.val b) :=
    funext fun g => (row_apply W h.ctr b g).trans (h.xg k b g)
  have hg : (fun g => res_main_while0b_v18 W (ix2 b g)) = Gru.proj (inWh m c) (inBh m c) (H m c k.val b) := by
    funext g
    refine (gates_apply W b g).trans ?_
    simp only [h.wh, h.bh, h.hid]
  rw [next_apply, hx, hg, h.hid]
  rfl

/-- A trip takes what `k` trips leave to what `k + 1` trips leave. -/
theorem holds_step {k : ℕ} (hk : k < 512) {W : Mem} (h : Holds m c k W) : Holds m c (k + 1) (STEP W) where
  xg i b g := (congrFun (STEP_main_v6_0 W) (ix3 i b g)).trans (h.xg i b g)
  wh g d := (congrFun (STEP_main_v6_1 W) (ix2 g d)).trans (h.wh g d)
  bh g := (congrFun (STEP_main_v6_2 W) (ix1 g)).trans (h.bh g)
  ctr := by
    refine (STEP_main_v6_3 W).trans ?_
    unfold step_main_v6_3
    refine (congrArg (fun v : (⟨S_, .i32⟩ : BufTy).Contents (Elt Ideal) => addi v (constantI S_ 32 1#32)) h.ctr).trans ?_
    funext x
    exact (BitVec.ofNat_add k 1).symm
  hid b j := (congrFun (STEP_main_v6_4 W) (ix2 b j)).trans (next_eq m c (k := ⟨k, hk⟩) h b j)
  outs i hi b j := by
    refine (congrFun (STEP_main_v6_5 W) (ix3 i b j)).trans ((outs_apply W (k := ⟨k, hk⟩) h.ctr i b j).trans ?_)
    by_cases e : i = ⟨k, hk⟩
    · subst e
      rw [if_pos rfl]
      exact next_eq m c h b j
    · rw [if_neg e]
      have hne : i.val ≠ k := fun h => e (Fin.ext h)
      exact h.outs i (by omega) b j

/-- After every number of trips up to 512. -/
theorem holds : ∀ k ≤ 512, Holds m c k (STEP^[k] (E m c))
  | 0, _ => ⟨entry_xg m c, fun g d => congrFun (entry_wh m c) (ix2 g d), fun g => congrFun (entry_bh m c) (ix1 g),
      ctr_entry m c, entry_hid m c, fun _ h => absurd h (Nat.not_lt_zero _)⟩
  | k + 1, hk => by
    rw [Function.iterate_succ_apply']
    exact holds_step m c hk (holds k (Nat.le_of_lt hk))

/-! ## The results -/

/-- The output at an index. -/
theorem out_apply (r : Fin 8192) (o : Fin 512) : (out_main_v12 (STEP^[512] (E m c)) : Vec Ideal S8192x512 .f32) (ix2 r o)
    = Gru.proj (inWo m c) (inBo m c) (H m c (r.val / 16 + 1) (Gru.batch r.val)) o := by
  have hr := r.isLt
  have h := (holds m c 512 le_rfl).outs ⟨r.val / 16, by omega⟩ (by show r.val / 16 < 512; omega) (Gru.batch r.val)
  have e : H m c (r.val / 16 + 1) (Gru.batch r.val) = fun d => outs (STEP^[512] (E m c)) (ix3 ⟨r.val / 16, by omega⟩ (Gru.batch r.val) d) :=
    funext fun d => (h d).symm
  rw [e]
  unfold out_main_v12
  rw [iter_main_arg5, iter_main_arg6]
  generalize STEP^[512] (E m c) = W
  pointwise
  rfl

/-- The final state at an index. -/
theorem mem_apply (b : Fin 16) (j : Fin 512) : hid (STEP^[512] (E m c)) (ix2 b j) = H m c 512 b j :=
  (holds m c 512 le_rfl).hid b j

end Cert.ReferenceIdeal.Loop

end
-- ==== Proof.Equal.lean ====
/-
  The two programs' results are equal over the extended reals. From arguments that agree both take the same recurrence,
  the kernel with its step written as `n + z (h - n)`, the reference with `(1 - z) n + z h`, and the states are the same.
-/
module

public import proofs.«01_k».proof.Proof.Kern.Array
public import proofs.«01_k».proof.Proof.Ref.Loop

@[expose] public section

noncomputable section

namespace Cert.Equal

open Cert Idealize.ShloMosaic Idealize.ShloMosaic.TcCoe

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The two programs' arguments agree on a device. -/
structure Agree : Prop where
  a0 : m' ((c.tc : Thread ReferenceIdeal.nD ReferenceIdeal.τ).loc ReferenceIdeal.main_arg0) = m ((c.tc : Thread KernelIdeal.nD KernelIdeal.τ).loc KernelIdeal.main_arg0)
  a1 : m' ((c.tc : Thread ReferenceIdeal.nD ReferenceIdeal.τ).loc ReferenceIdeal.main_arg1) = m ((c.tc : Thread KernelIdeal.nD KernelIdeal.τ).loc KernelIdeal.main_arg1)
  a2 : m' ((c.tc : Thread ReferenceIdeal.nD ReferenceIdeal.τ).loc ReferenceIdeal.main_arg2) = m ((c.tc : Thread KernelIdeal.nD KernelIdeal.τ).loc KernelIdeal.main_arg2)
  a3 : m' ((c.tc : Thread ReferenceIdeal.nD ReferenceIdeal.τ).loc ReferenceIdeal.main_arg3) = m ((c.tc : Thread KernelIdeal.nD KernelIdeal.τ).loc KernelIdeal.main_arg3)
  a4 : m' ((c.tc : Thread ReferenceIdeal.nD ReferenceIdeal.τ).loc ReferenceIdeal.main_arg4) = m ((c.tc : Thread KernelIdeal.nD KernelIdeal.τ).loc KernelIdeal.main_arg4)
  a5 : m' ((c.tc : Thread ReferenceIdeal.nD ReferenceIdeal.τ).loc ReferenceIdeal.main_arg5) = m ((c.tc : Thread KernelIdeal.nD KernelIdeal.τ).loc KernelIdeal.main_arg5)
  a6 : m' ((c.tc : Thread ReferenceIdeal.nD ReferenceIdeal.τ).loc ReferenceIdeal.main_arg6) = m ((c.tc : Thread KernelIdeal.nD KernelIdeal.τ).loc KernelIdeal.main_arg6)

variable {m m' c} (h : Agree m m' c)

include h

/-- The states agree. -/
theorem states_eq (k : ℕ) : ReferenceIdeal.Loop.H m' c k = KernelIdeal.Cell.H m c k := by
  have hx : ReferenceIdeal.Loop.inX m' c = KernelIdeal.Cell.inX m c := by
    unfold ReferenceIdeal.Loop.inX KernelIdeal.Cell.inX; rw [h.a0]
  have hwi : ReferenceIdeal.Loop.inWi m' c = KernelIdeal.Cell.inWi m c := by
    unfold ReferenceIdeal.Loop.inWi KernelIdeal.Cell.inWi; rw [h.a1]
  have hwh : ReferenceIdeal.Loop.inWh m' c = KernelIdeal.Cell.inWh m c := by
    unfold ReferenceIdeal.Loop.inWh KernelIdeal.Cell.inWh; rw [h.a2]
  have hbi : ReferenceIdeal.Loop.inBi m' c = KernelIdeal.Cell.inBi m c := by
    unfold ReferenceIdeal.Loop.inBi KernelIdeal.Cell.inBi; rw [h.a3]
  have hbh : ReferenceIdeal.Loop.inBh m' c = KernelIdeal.Cell.inBh m c := by
    unfold ReferenceIdeal.Loop.inBh KernelIdeal.Cell.inBh; rw [h.a4]
  unfold ReferenceIdeal.Loop.H KernelIdeal.Cell.H
  rw [hx, hwi, hwh, hbi, hbh]
  exact Gru.state_mix _ _ _ _ _ k

/-- The outputs agree. -/
theorem out_eq : ReferenceIdeal.Value.out_main_v12 (ReferenceIdeal.Value.STEP^[512] (ReferenceIdeal.Loop.E m' c))
    = KernelIdeal.Value.G7 m c := by
  have hwo : ReferenceIdeal.Loop.inWo m' c = KernelIdeal.Cell.inWo m c := by
    unfold ReferenceIdeal.Loop.inWo KernelIdeal.Cell.inWo; rw [h.a5]
  have hbo : ReferenceIdeal.Loop.inBo m' c = KernelIdeal.Cell.inBo m c := by
    unfold ReferenceIdeal.Loop.inBo KernelIdeal.Cell.inBo; rw [h.a6]
  funext i
  obtain ⟨r, o, rfl⟩ : ∃ (r : Fin 8192) (o : Fin 512), i = ix2 r o := ⟨i 0, i 1, by funext a; fin_cases a <;> rfl⟩
  refine (ReferenceIdeal.Loop.out_apply m' c r o).trans (Eq.trans ?_ (KernelIdeal.Cell.G7_apply m c r o).symm)
  rw [hwo, hbo, states_eq h]

/-- The final states agree. -/
theorem mem_eq : (ReferenceIdeal.Value.STEP^[512] (ReferenceIdeal.Loop.E m' c)) (Proc.devRef .tc ReferenceIdeal.main_v6_4)
    = KernelIdeal.Value.G8 m c := by
  funext i
  obtain ⟨b, j, rfl⟩ : ∃ (b : Fin 16) (j : Fin 512), i = ix2 b j := ⟨i 0, i 1, by funext a; fin_cases a <;> rfl⟩
  refine (ReferenceIdeal.Loop.mem_apply m' c b j).trans (Eq.trans ?_ (KernelIdeal.Cell.G8_apply m c b j).symm)
  rw [states_eq h]

end Cert.Equal

end
-- ==== Proof.lean ====
/-
  The proof of `Cert.Claim`: both programs' frames, the idealization (which rewrote nothing), and the two programs'
  equal results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, its arguments end unchanged, and it has no counter that could end at anything but zero. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- From arguments that agree the two programs end with equal results over the extended reals. -/
theorem equal_results : Cert.algebraic_KernelIdeal_ReferenceIdeal := by
  intro m ρ m' ρ' _ hagree
  have h : ∀ c, Cert.Equal.Agree m m' c := fun c =>
    have ⟨h0, h1, h2, h3, h4, h5, h6⟩ := hagree c
    ⟨h0, h1, h2, h3, h4, h5, h6⟩
  refine ⟨fun c => Cert.KernelIdeal.Value.G7 m c, fun c => Cert.KernelIdeal.Value.G8 m c,
    Cert.KernelIdeal.Value.run (F := Ideal) m ρ, ?_⟩
  exact (θ_run Cert.ReferenceIdeal.defs _ _).mono
    (fun r hr c => ⟨(hr c).1.trans (Cert.Equal.out_eq (h c)), (hr c).2.1.trans (Cert.Equal.mem_eq (h c)), (hr c).2.2⟩)
    (Cert.ReferenceIdeal.Value.run (F := Ideal) m' ρ')

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, equal_results⟩

end Cert.Proof

end
